-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S16x256x2048 : Shape := ⟨3, ![16, 256, 2048]⟩
abbrev S16x64x2048 : Shape := ⟨3, ![16, 64, 2048]⟩
abbrev S16x128x2048 : Shape := ⟨3, ![16, 128, 2048]⟩
abbrev S16x32x2048 : Shape := ⟨3, ![16, 32, 2048]⟩
abbrev S64x2 : Shape := ⟨2, ![64, 2]⟩
abbrev S64x256x8 : Shape := ⟨3, ![64, 256, 8]⟩
abbrev S64x8x256 : Shape := ⟨3, ![64, 8, 256]⟩
abbrev S1x256x1024 : Shape := ⟨3, ![1, 256, 1024]⟩
abbrev S1x64x1024 : Shape := ⟨3, ![1, 64, 1024]⟩
abbrev S1x128x2048 : Shape := ⟨3, ![1, 128, 2048]⟩
abbrev S1x32x2048 : Shape := ⟨3, ![1, 32, 2048]⟩
abbrev S256x1024 : Shape := ⟨2, ![256, 1024]⟩
abbrev S64x1024 : Shape := ⟨2, ![64, 1024]⟩
abbrev S64x1x1024 : Shape := ⟨3, ![64, 1, 1024]⟩
abbrev S64x4x1024 : Shape := ⟨3, ![64, 4, 1024]⟩
abbrev S64x256 : Shape := ⟨2, ![64, 256]⟩
abbrev S128x2048 : Shape := ⟨2, ![128, 2048]⟩
abbrev S128x8x2048 : Shape := ⟨3, ![128, 8, 2048]⟩
abbrev S128x1x2048 : Shape := ⟨3, ![128, 1, 2048]⟩
abbrev S1024x2048 : Shape := ⟨2, ![1024, 2048]⟩
abbrev S32x2048 : Shape := ⟨2, ![32, 2048]⟩
abbrev S32x1x2048 : Shape := ⟨3, ![32, 1, 2048]⟩
abbrev S32x32x2048 : Shape := ⟨3, ![32, 32, 2048]⟩
abbrev S64 : Shape := ⟨1, ![64]⟩
abbrev S64x1 : Shape := ⟨2, ![64, 1]⟩

abbrev nBuf : Space → Nat
  | .hbm => 11
  | .vmem => 16
  | .smem => 0
  | _ => 0

abbrev bufTy : (tb : Table) → Fin (tcTables nBuf tb) → BufTy
  | .hbm, ⟨0, _⟩ => ⟨S64x2048, .f32⟩
  | .hbm, ⟨1, _⟩ => ⟨S16x256x2048, .i32⟩
  | .hbm, ⟨2, _⟩ => ⟨S16x64x2048, .f32⟩
  | .hbm, ⟨3, _⟩ => ⟨S16x128x2048, .i32⟩
  | .hbm, ⟨4, _⟩ => ⟨S16x32x2048, .f32⟩
  | .hbm, ⟨5, _⟩ => ⟨S64x2, .i32⟩
  | .hbm, ⟨6, _⟩ => ⟨S64x2, .f32⟩
  | .hbm, ⟨7, _⟩ => ⟨S64x256x8, .f32⟩
  | .hbm, ⟨8, _⟩ => ⟨S64x8x256, .f32⟩
  | .hbm, ⟨9, _⟩ => ⟨S64x2048, .f32⟩
  | .hbm, ⟨10, _⟩ => ⟨S64x2048, .f32⟩
  | .local _ .vmem, ⟨0, _⟩ => ⟨S64x2, .i32⟩
  | .local _ .vmem, ⟨1, _⟩ => ⟨S64x2, .f32⟩
  | .local _ .vmem, ⟨2, _⟩ => ⟨S64x2048, .f32⟩
  | .local _ .vmem, ⟨3, _⟩ => ⟨S1x256x1024, .i32⟩
  | .local _ .vmem, ⟨4, _⟩ => ⟨S1x256x1024, .i32⟩
  | .local _ .vmem, ⟨5, _⟩ => ⟨S1x64x1024, .f32⟩
  | .local _ .vmem, ⟨6, _⟩ => ⟨S1x64x1024, .f32⟩
  | .local _ .vmem, ⟨7, _⟩ => ⟨S1x256x1024, .i32⟩
  | .local _ .vmem, ⟨8, _⟩ => ⟨S1x256x1024, .i32⟩
  | .local _ .vmem, ⟨9, _⟩ => ⟨S1x64x1024, .f32⟩
  | .local _ .vmem, ⟨10, _⟩ => ⟨S1x64x1024, .f32⟩
  | .local _ .vmem, ⟨11, _⟩ => ⟨S1x128x2048, .i32⟩
  | .local _ .vmem, ⟨12, _⟩ => ⟨S1x128x2048, .i32⟩
  | .local _ .vmem, ⟨13, _⟩ => ⟨S1x32x2048, .f32⟩
  | .local _ .vmem, ⟨14, _⟩ => ⟨S1x32x2048, .f32⟩
  | .local _ .vmem, ⟨15, _⟩ => ⟨S64x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S64x2048 : Shape := ⟨2, ![64, 2048]⟩
abbrev S16x256x2048 : Shape := ⟨3, ![16, 256, 2048]⟩
abbrev S16x64x2048 : Shape := ⟨3, ![16, 64, 2048]⟩
abbrev S16x128x2048 : Shape := ⟨3, ![16, 128, 2048]⟩
abbrev S16x32x2048 : Shape := ⟨3, ![16, 32, 2048]⟩
abbrev S64x2 : Shape := ⟨2, ![64, 2]⟩
abbrev S16 : Shape := ⟨1, ![16]⟩
abbrev S8 : Shape := ⟨1, ![8]⟩
abbrev S_ : Shape := ⟨0, ![]⟩
abbrev S16x256x1x2048 : Shape := ⟨4, ![16, 256, 1, 2048]⟩
abbrev S1x8x1 : Shape := ⟨3, ![1, 8, 1]⟩
abbrev S1x1x8x1 : Shape := ⟨4, ![1, 1, 8, 1]⟩
abbrev S16x256x8x2048 : Shape := ⟨4, ![16, 256, 8, 2048]⟩
abbrev S16x2048x2048 : Shape := ⟨3, ![16, 2048, 2048]⟩
abbrev S16x2048x2048x1 : Shape := ⟨4, ![16, 2048, 2048, 1]⟩
abbrev S16x64x32x2048 : Shape := ⟨4, ![16, 64, 32, 2048]⟩
abbrev S64x16x2048 : Shape := ⟨3, ![64, 16, 2048]⟩
abbrev S64x16x1024 : Shape := ⟨3, ![64, 16, 1024]⟩
abbrev S16x128x1x2048 : Shape := ⟨4, ![16, 128, 1, 2048]⟩
abbrev S16x128x8x2048 : Shape := ⟨4, ![16, 128, 8, 2048]⟩
abbrev S16x1024x2048 : Shape := ⟨3, ![16, 1024, 2048]⟩
abbrev S16x1024x2048x1 : Shape := ⟨4, ![16, 1024, 2048, 1]⟩
abbrev S16x32x32x2048 : Shape := ⟨4, ![16, 32, 32, 2048]⟩
abbrev S1x64x2 : Shape := ⟨3, ![1, 64, 2]⟩
abbrev S16x1x1 : Shape := ⟨3, ![16, 1, 1]⟩
abbrev S16x64x2 : Shape := ⟨3, ![16, 64, 2]⟩
abbrev S16x64 : Shape := ⟨2, ![16, 64]⟩
abbrev S16x64x1 : Shape := ⟨3, ![16, 64, 1]⟩

abbrev nBuf : Space → Nat
  | .hbm => 98
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S16x256x2048, .i32⟩
  | .hbm, ⟨2, _⟩ => ⟨S16x64x2048, .f32⟩
  | .hbm, ⟨3, _⟩ => ⟨S16x128x2048, .i32⟩
  | .hbm, ⟨4, _⟩ => ⟨S16x32x2048, .f32⟩
  | .hbm, ⟨5, _⟩ => ⟨S64x2, .i32⟩
  | .hbm, ⟨6, _⟩ => ⟨S64x2, .f32⟩
  | .hbm, ⟨7, _⟩ => ⟨S16, .f32⟩
  | .hbm, ⟨8, _⟩ => ⟨S16, .f32⟩
  | .hbm, ⟨9, _⟩ => ⟨S16, .i32⟩
  | .hbm, ⟨10, _⟩ => ⟨S16x256x2048, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S16x256x1x2048, .i32⟩
  | .hbm, ⟨16, _⟩ => ⟨S1x8x1, .i32⟩
  | .hbm, ⟨17, _⟩ => ⟨S1x1x8x1, .i32⟩
  | .hbm, ⟨18, _⟩ => ⟨S16x256x8x2048, .i32⟩
  | .hbm, ⟨19, _⟩ => ⟨S16x256x8x2048, .i32⟩
  | .hbm, ⟨20, _⟩ => ⟨S16x256x8x2048, .i32⟩
  | .hbm, ⟨21, _⟩ => ⟨S_, .i32⟩
  | .hbm, ⟨22, _⟩ => ⟨S16x256x8x2048, .i32⟩
  | .hbm, ⟨23, _⟩ => ⟨S16x256x8x2048, .i32⟩
  | .hbm, ⟨24, _⟩ => ⟨S16x256x8x2048, .i32⟩
  | .hbm, ⟨25, _⟩ => ⟨S16x2048x2048, .i32⟩
  | .hbm, ⟨26, _⟩ => ⟨S_, .i32⟩
  | .hbm, ⟨27, _⟩ => ⟨S16x2048x2048, .i32⟩
  | .hbm, ⟨28, _⟩ => ⟨S16x2048x2048, .i1⟩
  | .hbm, ⟨29, _⟩ => ⟨S_, .i32⟩
  | .hbm, ⟨30, _⟩ => ⟨S16x2048x2048, .i32⟩
  | .hbm, ⟨31, _⟩ => ⟨S16x2048x2048, .i32⟩
  | .hbm, ⟨32, _⟩ => ⟨S16x2048x2048, .i32⟩
  | .hbm, ⟨33, _⟩ => ⟨S16x2048x2048x1, .i32⟩
  | .hbm, ⟨34, _⟩ => ⟨S16x2048x2048, .f32⟩
  | .hbm, ⟨35, _⟩ => ⟨S16x64x32x2048, .f32⟩
  | .hbm, ⟨36, _⟩ => ⟨S16x2048x2048, .f32⟩
  | .hbm, ⟨37, _⟩ => ⟨S16x2048x2048, .f32⟩
  | .hbm, ⟨38, _⟩ => ⟨S64x16x2048, .f32⟩
  | .hbm, ⟨39, _⟩ => ⟨S64x16x1024, .f32⟩
  | .hbm, ⟨40, _⟩ => ⟨S64x16x1024, .f32⟩
  | .hbm, ⟨41, _⟩ => ⟨S64x16x1024, .f32⟩
  | .hbm, ⟨42, _⟩ => ⟨S_, .f32⟩
  | .hbm, ⟨43, _⟩ => ⟨S64x16x1024, .f32⟩
  | .hbm, ⟨44, _⟩ => ⟨S64x16x1024, .f32⟩
  | .hbm, ⟨45, _⟩ => ⟨S_, .f32⟩
  | .hbm, ⟨46, _⟩ => ⟨S64x16x1024, .f32⟩
  | .hbm, ⟨47, _⟩ => ⟨S64x16x1024, .f32⟩
  | .hbm, ⟨48, _⟩ => ⟨S64x16x1024, .f32⟩
  | .hbm, ⟨49, _⟩ => ⟨S64x16x1024, .f32⟩
  | .hbm, ⟨50, _⟩ => ⟨S64x16x1024, .f32⟩
  | .hbm, ⟨51, _⟩ => ⟨S16x128x2048, .i32⟩
  | .hbm, ⟨52, _⟩ => ⟨S8, .i32⟩
  | .hbm, ⟨53, _⟩ => ⟨S_, .i32⟩
  | .hbm, ⟨54, _⟩ => ⟨S8, .i32⟩
  | .hbm, ⟨55, _⟩ => ⟨S8, .i32⟩
  | .hbm, ⟨56, _⟩ => ⟨S16x128x1x2048, .i32⟩
  | .hbm, ⟨57, _⟩ => ⟨S1x8x1, .i32⟩
  | .hbm, ⟨58, _⟩ => ⟨S1x1x8x1, .i32⟩
  | .hbm, ⟨59, _⟩ => ⟨S16x128x8x2048, .i32⟩
  | .hbm, ⟨60, _⟩ => ⟨S16x128x8x2048, .i32⟩
  | .hbm, ⟨61, _⟩ => ⟨S16x128x8x2048, .i32⟩
  | .hbm, ⟨62, _⟩ => ⟨S_, .i32⟩
  | .hbm, ⟨63, _⟩ => ⟨S16x128x8x2048, .i32⟩
  | .hbm, ⟨64, _⟩ => ⟨S16x128x8x2048, .i32⟩
  | .hbm, ⟨65, _⟩ => ⟨S16x128x8x2048, .i32⟩
  | .hbm, ⟨66, _⟩ => ⟨S16x1024x2048, .i32⟩
  | .hbm, ⟨67, _⟩ => ⟨S_, .i32⟩
  | .hbm, ⟨68, _⟩ => ⟨S16x1024x2048, .i32⟩
  | .hbm, ⟨69, _⟩ => ⟨S16x1024x2048, .i1⟩
  | .hbm, ⟨70, _⟩ => ⟨S_, .i32⟩
  | .hbm, ⟨71, _⟩ => ⟨S16x1024x2048, .i32⟩
  | .hbm, ⟨72, _⟩ => ⟨S16x1024x2048, .i32⟩
  | .hbm, ⟨73, _⟩ => ⟨S16x1024x2048, .i32⟩
  | .hbm, ⟨74, _⟩ => ⟨S16x1024x2048x1, .i32⟩
  | .hbm, ⟨75, _⟩ => ⟨S16x1024x2048, .f32⟩
  | .hbm, ⟨76, _⟩ => ⟨S16x32x32x2048, .f32⟩
  | .hbm, ⟨77, _⟩ => ⟨S16x1024x2048, .f32⟩
  | .hbm, ⟨78, _⟩ => ⟨S16x1024x2048, .f32⟩
  | .hbm, ⟨79, _⟩ => ⟨S16x64x2048, .f32⟩
  | .hbm, ⟨80, _⟩ => ⟨S1x64x2, .i32⟩
  | .hbm, ⟨81, _⟩ => ⟨S16x1x1, .i32⟩
  | .hbm, ⟨82, _⟩ => ⟨S16x64x2, .i32⟩
  | .hbm, ⟨83, _⟩ => ⟨S16x64x2, .i32⟩
  | .hbm, ⟨84, _⟩ => ⟨S16x64x2, .i1⟩
  | .hbm, ⟨85, _⟩ => ⟨S_, .f32⟩
  | .hbm, ⟨86, _⟩ => ⟨S_, .f32⟩
  | .hbm, ⟨87, _⟩ => ⟨S64x2, .f32⟩
  | .hbm, ⟨88, _⟩ => ⟨S16x64x2, .f32⟩
  | .hbm, ⟨89, _⟩ => ⟨S16x64x2, .f32⟩
  | .hbm, ⟨90, _⟩ => ⟨S16x64x2, .f32⟩
  | .hbm, ⟨91, _⟩ => ⟨S_, .f32⟩
  | .hbm, ⟨92, _⟩ => ⟨S16x64, .f32⟩
  | .hbm, ⟨93, _⟩ => ⟨S16x64x1, .f32⟩
  | .hbm, ⟨94, _⟩ => ⟨S16x64x2048, .f32⟩
  | .hbm, ⟨95, _⟩ => ⟨S16x64x2048, .f32⟩
  | .hbm, ⟨96, _⟩ => ⟨S_, .f32⟩
  | .hbm, ⟨97, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Proof.Tile.lean ====
/- What one grid point of the kernel computes, written once over its input blocks: a nibble's word, one of the eight
   products of a gate or up projection, the projection as the chain of the eight, and the whole point. The two cases of
   the generated fold (the reset and the step) are this one function. -/
module

public import proofs.«01_k».proof.Proof.Gen.KernelIdeal.Value

@[expose] public section

noncomputable section

namespace Cert.KernelIdeal.Tile

open Idealize.ShloMosaic Idealize.SL.Sem
open Cert.KernelIdeal Cert.KernelIdeal.Gen

variable {F : FTy → Type} [FloatOps F]

/-- The word of the float the low four bits of each word name: the magnitude from the low three bits, the sign from the fourth. -/
def bitsOf {s : Shape} (t : IVec s 32) : IVec s 32 :=
  ori (select (cmpi .slt (andi t (broadcast s 7#32)) (broadcast s 2#32))
      (muli (andi t (broadcast s 7#32)) (broadcast s 1056964608#32))
      (shli (addi (andi t (broadcast s 7#32)) (broadcast s 252#32)) (broadcast s 22#32)))
    (shli (andi t (broadcast s 8#32)) (broadcast s 28#32))

/-- One of the eight products of a projection added to the sum so far: the rows `xs` times the weights decoded from the
    words `t`, each weight scaled by `sc`. -/
def part (xs : FVec F S64x256 .bf16) (t : IVec S256x1024 32) (sc : FVec F S256x1024 .f32) (h : FVec F S64x1024 .f32) :
    FVec F S64x1024 .f32 :=
  addf h (matmul dot_S64x256_S256x1024_S64x1024_1_0_0_1_n_n none xs
    (truncf .bf16 (mulf (bitcastToFloat .f32 (bitsOf t)) sc) bitsLt_bf16_f32) (constant S64x1024 .f32 0x00000000#32))

/-- A projection: the eight products added up in order, product `j` over columns `256 j …` of `x` and over the packed
    words shifted right by `4 j`. -/
def proj (x : FVec F S64x2048 .bf16) (p : IVec S256x1024 32) (sc : FVec F S256x1024 .f32) : FVec F S64x1024 .f32 :=
  part (extractStridedSlice S64x256 ![0, 1792] x slices_S64x2048_o0_1792_S64x256) (shrui p (broadcast S256x1024 28#32)) sc
  (part (extractStridedSlice S64x256 ![0, 1536] x slices_S64x2048_o0_1536_S64x256) (shrui p (broadcast S256x1024 24#32)) sc
  (part (extractStridedSlice S64x256 ![0, 1280] x slices_S64x2048_o0_1280_S64x256) (shrui p (broadcast S256x1024 20#32)) sc
  (part (extractStridedSlice S64x256 ![0, 1024] x slices_S64x2048_o0_1024_S64x256) (shrui p (broadcast S256x1024 16#32)) sc
  (part (extractStridedSlice S64x256 ![0, 768] x slices_S64x2048_o0_768_S64x256) (shrui p (broadcast S256x1024 12#32)) sc
  (part (extractStridedSlice S64x256 ![0, 512] x slices_S64x2048_o0_512_S64x256) (shrui p (broadcast S256x1024 8#32)) sc
  (part (extractStridedSlice S64x256 ![0, 256] x slices_S64x2048_o0_256_S64x256) (shrui p (broadcast S256x1024 4#32)) sc
  (part (extractStridedSlice S64x256 ![0, 0] x slices_S64x2048_o0_0_S64x256) p sc
    (broadcast S64x1024 (Scalar.ofBits .f32 0x00000000#32)))))))))

/-- The gated activation of the two projections. -/
def act (g u : FVec F S64x1024 .f32) : FVec F S64x1024 .bf16 :=
  truncf .bf16 (mulf (mulf g (logistic g)) u) bitsLt_bf16_f32

/-- One grid point: the expert `e`'s weighted output added to `acc`. -/
def tile (e : BitVec 32) (x0 : Vec F S64x2 .i32) (x1 : Vec F S64x2 .f32) (x2 : Vec F S64x2048 .f32)
    (x3 : Vec F S1x256x1024 .i32) (x4 : Vec F S1x64x1024 .f32) (x5 : Vec F S1x256x1024 .i32) (x6 : Vec F S1x64x1024 .f32)
    (x7 : Vec F S1x128x2048 .i32) (x8 : Vec F S1x32x2048 .f32) (acc : Vec F S64x2048 .f32) : FVec F S64x2048 .f32 :=
  k0_pay1 e (act (proj (k0_pay3 x2) (k0_pay4 x3) (k0_pay6 x4)) (proj (k0_pay3 x2) (k0_pay5 x5) (k0_pay7 x6)))
    (k0_pay62 x7) (k0_pay63 x7) x8 x0 x1 acc

variable (m : (ℓ : Loc nD τ sig) → Buf (Elt F) ℓ)

/-- The step at point `n` is the tile over the point's blocks. -/
theorem step_eq (c : Dev nD) (n : ℕ) (h : n < cfg0.N) (acc : Vec F S64x2048 .f32) :
    Value.step9 m c n h acc = tile (BitVec.ofNat 32 ((grid0.coords ⟨n, h⟩) 0).val) (iblk m c 0 ⟨n, h⟩) (iblk m c 1 ⟨n, h⟩)
      (iblk m c 2 ⟨n, h⟩) (iblk m c 3 ⟨n, h⟩) (iblk m c 4 ⟨n, h⟩) (iblk m c 5 ⟨n, h⟩) (iblk m c 6 ⟨n, h⟩)
      (iblk m c 7 ⟨n, h⟩) (iblk m c 8 ⟨n, h⟩) acc := rfl

/-- The reset at point `n` is the tile over the point's blocks and zeros. -/
theorem reset_eq (c : Dev nD) (n : ℕ) (h : n < cfg0.N) :
    Value.reset9 m c n h = tile (BitVec.ofNat 32 ((grid0.coords ⟨n, h⟩) 0).val) (iblk m c 0 ⟨n, h⟩) (iblk m c 1 ⟨n, h⟩)
      (iblk m c 2 ⟨n, h⟩) (iblk m c 3 ⟨n, h⟩) (iblk m c 4 ⟨n, h⟩) (iblk m c 5 ⟨n, h⟩) (iblk m c 6 ⟨n, h⟩)
      (iblk m c 7 ⟨n, h⟩) (iblk m c 8 ⟨n, h⟩) k0_pay2 := rfl

end Cert.KernelIdeal.Tile
-- ==== Proof.Spec.lean ====
/- The layer's mathematics over the extended reals, at which both programs are read: four-bit weights decoded and scaled,
   the hidden projection, its gated activation, the down projection, and the sum over the experts weighted by each
   token's probabilities. With it, the facts about words the two decodings need. -/
module

public import Idealize.ShloMosaic.Lib.ValueIdx
public import Idealize.ShloMosaic.Lib.Pointwise

@[expose] public section

noncomputable section

namespace Cert.Moe

open Idealize.ShloMosaic

/-! ## Decoding a four-bit code -/

/-- The word shifted right by `4 j`: its low four bits are code `j` of the word. -/
def code (w : BitVec 32) (j : ℕ) : BitVec 32 := IntOp.shrui .vector w (IntOp.muli (BitVec.ofNat 32 j) 4#32)

/-- The float pattern the low four bits of `t` name, by shifts and masks: codes 0 and 1 are a multiple of one half, a
    higher magnitude is a shift of its three bits with a bias; bit three is the sign. -/
def pat (t : BitVec 32) : BitVec 32 :=
  IntOp.ori (Scalar.select (IntOp.cmpi .slt (IntOp.andi t 7#32) 2#32) (IntOp.muli (IntOp.andi t 7#32) 1056964608#32)
    (IntOp.shli .vector (IntOp.addi (IntOp.andi t 7#32) 252#32) 22#32)) (IntOp.shli .vector (IntOp.andi t 8#32) 28#32)

/-- The number the low four bits of `t` name. -/
def dec (t : BitVec 32) : EReal := Ideal.ofBits .f32 (pat t)

/-- The pattern depends on the low four bits alone. -/
theorem pat_low (t : BitVec 32) : pat (IntOp.andi t 15#32) = pat t := by
  have h7 : IntOp.andi (IntOp.andi t 15#32) 7#32 = IntOp.andi t 7#32 := by
    show t &&& 15#32 &&& 7#32 = t &&& 7#32
    rw [BitVec.and_assoc]; rfl
  have h8 : IntOp.andi (IntOp.andi t 15#32) 8#32 = IntOp.andi t 8#32 := by
    show t &&& 15#32 &&& 8#32 = t &&& 8#32
    rw [BitVec.and_assoc]; rfl
  unfold pat
  rw [h7, h8]

/-- The low four bits, as a number below 16. -/
theorem low_lt (t : BitVec 32) : (IntOp.andi t 15#32).toNat < 16 := by
  show (t &&& 15#32).toNat < 16
  rw [BitVec.toNat_and]
  exact Nat.lt_of_le_of_lt Nat.and_le_right (by decide)

/-- A table of sixteen patterns that agrees with `pat` at each code, read at the index the reference computes (negative
    codes moved up by 16, then clamped to the table), gives the pattern of the code. -/
theorem table_at (f : Fin 16 → BitVec 32) (hf : ∀ k : Fin 16, f k = pat (BitVec.ofNat 32 k.val)) (t : BitVec 32) (k : Fin 16)
    (hk : k.val = min (Scalar.select (IntOp.cmpi .slt (IntOp.andi t 15#32) 0#32) (IntOp.addi (IntOp.andi t 15#32) 16#32)
      (IntOp.andi t 15#32)).toInt.toNat 15) : f k = pat t := by
  have h : ∀ i : Fin 16, min (Scalar.select (IntOp.cmpi .slt (BitVec.ofNat 32 i.val) 0#32)
      (IntOp.addi (BitVec.ofNat 32 i.val) 16#32) (BitVec.ofNat 32 i.val)).toInt.toNat 15 = i.val := by decide
  obtain ⟨i, hi⟩ : ∃ i : Fin 16, IntOp.andi t 15#32 = BitVec.ofNat 32 i.val :=
    ⟨⟨_, low_lt t⟩, by simp⟩
  rw [hi, h i] at hk
  rw [hf, hk, ← hi, pat_low]

/-- Code zero of a word is the word itself, unshifted. -/
theorem code_zero (w : BitVec 32) : code w 0 = w := by
  show IntOp.shrui .vector w 0#32 = w
  unfold IntOp.shrui
  rw [if_pos (by decide)]
  simp

/-! ## The layer -/

/-- The packed gate and up weights, their scales, and the other arguments, as functions of their indices. -/
abbrev PG := (⟨3, ![16, 256, 2048]⟩ : Shape).Idx → BitVec 32
abbrev SG := (⟨3, ![16, 64, 2048]⟩ : Shape).Idx → EReal
abbrev PD := (⟨3, ![16, 128, 2048]⟩ : Shape).Idx → BitVec 32
abbrev SD := (⟨3, ![16, 32, 2048]⟩ : Shape).Idx → EReal
abbrev X := (⟨2, ![64, 2048]⟩ : Shape).Idx → EReal
abbrev Ids := (⟨2, ![64, 2]⟩ : Shape).Idx → BitVec 32
abbrev Prb := (⟨2, ![64, 2]⟩ : Shape).Idx → EReal

/-- Weight `(k, n)` of expert `e`'s gate and up projection. -/
def wg (p : PG) (s : SG) (e : Fin 16) (k n : Fin 2048) : EReal :=
  dec (code (p (ix3 e ⟨k.val / 8, by omega⟩ n)) (k.val % 8)) * s (ix3 e ⟨k.val / 32, by omega⟩ n)

/-- Weight `(k, n)` of expert `e`'s down projection. -/
def wd (p : PD) (s : SD) (e : Fin 16) (k : Fin 1024) (n : Fin 2048) : EReal :=
  dec (code (p (ix3 e ⟨k.val / 8, by omega⟩ n)) (k.val % 8)) * s (ix3 e ⟨k.val / 32, by omega⟩ n)

/-- Column `n` of token `t`'s hidden projection by expert `e`. -/
def hid (x : X) (p : PG) (s : SG) (e : Fin 16) (t : Fin 64) (n : Fin 2048) : EReal := ∑ k, x (ix2 t k) * wg p s e k n

/-- The gated activation: the first half times its logistic times the second half. -/
def gate (x : X) (p : PG) (s : SG) (e : Fin 16) (t : Fin 64) (i : Fin 1024) : EReal :=
  hid x p s e t ⟨i.val, by omega⟩ * Ideal.logistic (hid x p s e t ⟨i.val, by omega⟩) * hid x p s e t ⟨1024 + i.val, by omega⟩

/-- The weight token `t` gives expert `e`. -/
def share (ids : Ids) (pr : Prb) (e : Fin 16) (t : Fin 64) : EReal :=
  ∑ j, Scalar.select (IntOp.cmpi .eq (ids (ix2 t j)) (BitVec.ofNat 32 e.val)) (pr (ix2 t j)) 0

/-- Expert `e`'s term of output `(t, n)`. -/
def term (x : X) (pg : PG) (sg : SG) (pd : PD) (sd : SD) (ids : Ids) (pr : Prb) (t : Fin 64) (n : Fin 2048) (e : Fin 16) : EReal :=
  (∑ i, gate x pg sg e t i * wd pd sd e i n) * share ids pr e t

/-- Output `(t, n)`: the experts' terms added up. -/
def out (x : X) (pg : PG) (sg : SG) (pd : PD) (sd : SD) (ids : Ids) (pr : Prb) (t : Fin 64) (n : Fin 2048) : EReal :=
  ∑ e, term x pg sg pd sd ids pr t n e

/-- A sum over 2048 rows, grouped as eight interleaved sums of 256: row `8 r + j` is entry `r` of group `j`. -/
theorem sum_interleave (f : Fin 2048 → EReal) :
    ∑ k, f k = ∑ j : Fin 8, ∑ r : Fin 256, f ⟨8 * r.val + j.val, by omega⟩ := by
  rw [Fin.sum_univ_tiles 256 8 (by norm_num) f, Finset.sum_comm]
  refine Finset.sum_congr rfl fun j _ => Finset.sum_congr rfl fun r _ => congrArg f (Fin.ext ?_)
  show r.val * 8 + j.val = 8 * r.val + j.val
  omega

end Cert.Moe
-- ==== Proof.TileApply.lean ====
/- One grid point read at an index: over blocks that hold expert `e`'s share of the arguments, it adds expert `e`'s term
   of the layer to what the output held. -/
module

public import proofs.«01_k».proof.Proof.Tile
public import proofs.«01_k».proof.Proof.Spec

@[expose] public section

noncomputable section

namespace Cert.KernelIdeal.Tile

open Idealize.ShloMosaic Idealize.SL.Sem
open Cert.KernelIdeal Cert.KernelIdeal.Gen

/-- One of the eight products at an index, over the words shifted by `4 j`. -/
theorem part_at (xs : FVec Ideal S64x256 .bf16) (t : IVec S256x1024 32) (sc : FVec Ideal S256x1024 .f32)
    (h : FVec Ideal S64x1024 .f32) (a : Fin 64) (b : Fin 1024) :
    part xs t sc h (ix2 a b) = h (ix2 a b) + ∑ r, xs (ix2 a r) * (Moe.dec (t (ix2 r b)) * sc (ix2 r b)) := by
  pointwise [part, bitsOf]
  rfl

/-- The slice of 256 columns from `256 j`, at an index. -/
theorem cols_at (x : FVec Ideal S64x2048 .bf16) (j : Fin 8) (o : Fin S64x2048.rank → ℕ) (ho : o = ![0, 256 * j.val])
    (h : S64x2048.Slices o S64x256) (a : Fin 64) (r : Fin 256) :
    extractStridedSlice S64x256 o x h (ix2 a r) = x (ix2 a ⟨256 * j.val + r.val, by omega⟩) := by
  subst ho
  pointwise

/-- Product `j` of a projection at an index: columns `256 j …` of `x` times the codes `j` of the packed words. -/
theorem part_step (x : FVec Ideal S64x2048 .bf16) (p t : IVec S256x1024 32) (sc : FVec Ideal S256x1024 .f32)
    (h : FVec Ideal S64x1024 .f32) (j : Fin 8) (o : Fin S64x2048.rank → ℕ) (ho : o = ![0, 256 * j.val])
    (hs : S64x2048.Slices o S64x256) (ht : ∀ i, t i = Moe.code (p i) j.val) (a : Fin 64) (b : Fin 1024) :
    part (extractStridedSlice S64x256 o x hs) t sc h (ix2 a b) = h (ix2 a b) + ∑ r : Fin 256,
      x (ix2 a ⟨256 * j.val + r.val, by omega⟩) * (Moe.dec (Moe.code (p (ix2 r b)) j.val) * sc (ix2 r b)) := by
  rw [part_at]
  simp only [cols_at x j o ho, ht]

/-- A projection at an index: the eight products added up. -/
theorem proj_at (x : FVec Ideal S64x2048 .bf16) (p : IVec S256x1024 32) (sc : FVec Ideal S256x1024 .f32) (a : Fin 64) (b : Fin 1024) :
    proj x p sc (ix2 a b) = ∑ j : Fin 8, ∑ r : Fin 256,
      x (ix2 a ⟨256 * j.val + r.val, by omega⟩) * (Moe.dec (Moe.code (p (ix2 r b)) j.val) * sc (ix2 r b)) := by
  have h0 : (broadcast S64x1024 (Scalar.ofBits .f32 0x00000000#32) : FVec Ideal S64x1024 .f32) (ix2 a b) = 0 := by pointwise
  rw [Fin.sum_univ_eight]
  unfold proj
  refine (part_step x p _ sc _ 7 _ (by rfl) _ (by intro _; rfl) a b).trans (congrArg (· + _) ?_)
  refine (part_step x p _ sc _ 6 _ (by rfl) _ (by intro _; rfl) a b).trans (congrArg (· + _) ?_)
  refine (part_step x p _ sc _ 5 _ (by rfl) _ (by intro _; rfl) a b).trans (congrArg (· + _) ?_)
  refine (part_step x p _ sc _ 4 _ (by rfl) _ (by intro _; rfl) a b).trans (congrArg (· + _) ?_)
  refine (part_step x p _ sc _ 3 _ (by rfl) _ (by intro _; rfl) a b).trans (congrArg (· + _) ?_)
  refine (part_step x p _ sc _ 2 _ (by rfl) _ (by intro _; rfl) a b).trans (congrArg (· + _) ?_)
  refine (part_step x p _ sc _ 1 _ (by rfl) _ (by intro _; rfl) a b).trans (congrArg (· + _) ?_)
  refine (part_step x p _ sc _ 0 _ (by rfl) _ (by intro i; exact (Moe.code_zero (p i)).symm) a b).trans ?_
  rw [h0, zero_add]

/-- A projection of one grid point is the layer's hidden projection at column `c + b`, when its blocks hold: the rows of
    `x` with column `8 r + j` at `256 j + r`, and from column `c` on, expert `e`'s packed words and scales (each scale
    at its four packed rows). -/
theorem proj_hid (x : FVec Ideal S64x2048 .bf16) (p : IVec S256x1024 32) (sc : FVec Ideal S256x1024 .f32)
    (X : Moe.X) (P : Moe.PG) (S : Moe.SG) (e : Fin 16) (a : Fin 64) (b : Fin 1024) (n : Fin 2048)
    (hx : ∀ (j : Fin 8) (r : Fin 256), x (ix2 a ⟨256 * j.val + r.val, by omega⟩) = X (ix2 a ⟨8 * r.val + j.val, by omega⟩))
    (hp : ∀ r : Fin 256, p (ix2 r b) = P (ix3 e r n))
    (hs : ∀ r : Fin 256, sc (ix2 r b) = S (ix3 e ⟨r.val / 4, by omega⟩ n)) :
    proj x p sc (ix2 a b) = Moe.hid X P S e a n := by
  rw [proj_at]
  unfold Moe.hid
  rw [Moe.sum_interleave]
  refine Finset.sum_congr rfl fun j _ => Finset.sum_congr rfl fun r _ => ?_
  rw [hx, hp, hs]
  unfold Moe.wg
  have h1 : (⟨(8 * r.val + j.val) / 8, by omega⟩ : Fin 256) = r := Fin.ext (by show (8 * r.val + j.val) / 8 = r.val; omega)
  have h2 : (8 * r.val + j.val) % 8 = j.val := by omega
  have h3 : (⟨(8 * r.val + j.val) / 32, by omega⟩ : Fin 64) = ⟨r.val / 4, by omega⟩ :=
    Fin.ext (by show (8 * r.val + j.val) / 32 = r.val / 4; omega)
  simp only [h1, h2, h3]

/-- The activation at an index. -/
theorem act_at (g u : FVec Ideal S64x1024 .f32) (a : Fin 64) (b : Fin 1024) :
    act g u (ix2 a b) = g (ix2 a b) * Ideal.logistic (g (ix2 a b)) * u (ix2 a b) := by
  pointwise [act]

/-- The down projection's part of one grid point: expert `e`'s output, weighted and added to `acc`. -/
theorem down_at (k : BitVec 32) (v : FVec Ideal S64x1024 .bf16) (x7 : Vec Ideal S1x128x2048 .i32) (x8 : Vec Ideal S1x32x2048 .f32)
    (x0 : Vec Ideal S64x2 .i32) (x1 : Vec Ideal S64x2 .f32) (acc : Vec Ideal S64x2048 .f32) (a : Fin 64) (b : Fin 2048) :
    k0_pay1 k v (k0_pay62 x7) (k0_pay63 x7) x8 x0 x1 acc (ix2 a b) = acc (ix2 a b)
      + (∑ i : Fin 1024, v (ix2 a i) * (Moe.dec (Moe.code (x7 (ix3 0 ⟨i.val / 8, by omega⟩ b)) (i.val % 8))
          * x8 (ix3 0 ⟨i.val / 32, by omega⟩ b)))
        * ∑ j, Scalar.select (IntOp.cmpi .eq (x0 (ix2 a j)) k) (x1 (ix2 a j)) 0 := by
  unfold_payloads
  pointwise
  rfl

/-- One grid point at an index: over blocks that hold expert `e`'s share of the arguments it adds expert `e`'s term. -/
theorem tile_at (x0 : Vec Ideal S64x2 .i32) (x1 : Vec Ideal S64x2 .f32) (x2 : Vec Ideal S64x2048 .f32)
    (x3 : Vec Ideal S1x256x1024 .i32) (x4 : Vec Ideal S1x64x1024 .f32) (x5 : Vec Ideal S1x256x1024 .i32)
    (x6 : Vec Ideal S1x64x1024 .f32) (x7 : Vec Ideal S1x128x2048 .i32) (x8 : Vec Ideal S1x32x2048 .f32)
    (X : Moe.X) (PG : Moe.PG) (SG : Moe.SG) (PD : Moe.PD) (SD : Moe.SD) (ids : Moe.Ids) (pr : Moe.Prb) (e : Fin 16)
    (h0 : x0 = ids) (h1 : x1 = pr)
    (h2 : ∀ (a : Fin 64) (j : Fin 8) (r : Fin 256),
      x2 (ix2 a ⟨256 * j.val + r.val, by omega⟩) = X (ix2 a ⟨8 * r.val + j.val, by omega⟩))
    (h3 : ∀ (r : Fin 256) (i : Fin 1024), x3 (ix3 0 r i) = PG (ix3 e r ⟨i.val, by omega⟩))
    (h4 : ∀ (r : Fin 64) (i : Fin 1024), x4 (ix3 0 r i) = SG (ix3 e r ⟨i.val, by omega⟩))
    (h5 : ∀ (r : Fin 256) (i : Fin 1024), x5 (ix3 0 r i) = PG (ix3 e r ⟨1024 + i.val, by omega⟩))
    (h6 : ∀ (r : Fin 64) (i : Fin 1024), x6 (ix3 0 r i) = SG (ix3 e r ⟨1024 + i.val, by omega⟩))
    (h7 : ∀ (r : Fin 128) (n : Fin 2048), x7 (ix3 0 r n) = PD (ix3 e r n))
    (h8 : ∀ (r : Fin 32) (n : Fin 2048), x8 (ix3 0 r n) = SD (ix3 e r n))
    (acc : Vec Ideal S64x2048 .f32) (a : Fin 64) (n : Fin 2048) :
    tile (BitVec.ofNat 32 e.val) x0 x1 x2 x3 x4 x5 x6 x7 x8 acc (ix2 a n)
      = acc (ix2 a n) + Moe.term X PG SG PD SD ids pr a n e := by
  have hx : ∀ (a : Fin 64) (j : Fin 8) (r : Fin 256), k0_pay3 x2 (ix2 a ⟨256 * j.val + r.val, by omega⟩)
      = X (ix2 a ⟨8 * r.val + j.val, by omega⟩) := fun a j r => by
    rw [← h2]; unfold_payloads; pointwise
  have hg : ∀ (a : Fin 64) (b : Fin 1024), proj (k0_pay3 x2) (k0_pay4 x3) (k0_pay6 x4) (ix2 a b)
      = Moe.hid X PG SG e a ⟨b.val, by omega⟩ := fun a b =>
    proj_hid _ _ _ X PG SG e a b _ (hx a) (fun r => by rw [← h3]; unfold_payloads; pointwise)
      (fun r => by rw [← h4]; unfold_payloads; pointwise)
  have hu : ∀ (a : Fin 64) (b : Fin 1024), proj (k0_pay3 x2) (k0_pay5 x5) (k0_pay7 x6) (ix2 a b)
      = Moe.hid X PG SG e a ⟨1024 + b.val, by omega⟩ := fun a b =>
    proj_hid _ _ _ X PG SG e a b _ (hx a) (fun r => by rw [← h5]; unfold_payloads; pointwise)
      (fun r => by rw [← h6]; unfold_payloads; pointwise)
  subst h0 h1
  unfold tile
  rw [down_at]
  simp only [act_at, hg, hu, h7, h8]
  rfl

end Cert.KernelIdeal.Tile
-- ==== Proof.Blocks.lean ====
/- The kernel's windows read at an index: each block of grid point `t` in terms of the arguments. -/
module

public import proofs.«01_k».proof.Proof.Gen.KernelIdeal.Frame.Runs
public import Idealize.ShloMosaic.Lib.Pointwise
public import Idealize.ShloMosaic.Lib.Pipeline.Value

@[expose] public section

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ)

/-- The expert of a grid point. -/
def ex (t : Fin cfg0.N) : Fin 16 := ⟨t.val, t.isLt⟩

/-- The point's first coordinate is its expert. -/
theorem coord_eq : ∀ t : Fin cfg0.N, ((grid0.coords t) 0).val = t.val := by decide +kernel

/-- Window 0 is its whole array at every point. -/
theorem idx0 : ∀ t : Fin cfg0.N, win0_0.index t 0 = 0 ∧ win0_0.index t 1 = 0 := by decide +kernel

/-- Window 1 is its whole array at every point. -/
theorem idx1 : ∀ t : Fin cfg0.N, win0_1.index t 0 = 0 ∧ win0_1.index t 1 = 0 := by decide +kernel

/-- Window 2 is its whole array at every point. -/
theorem idx2 : ∀ t : Fin cfg0.N, win0_2.index t 0 = 0 ∧ win0_2.index t 1 = 0 := by decide +kernel

/-- Window 3's block index at a point: the expert, row block 0, column block 0. -/
theorem idx3 : ∀ t : Fin cfg0.N, win0_3.index t 0 = t.val ∧ win0_3.index t 1 = 0 ∧ win0_3.index t 2 = 0 := by decide +kernel

/-- Window 4's block index at a point: the expert, row block 0, column block 0. -/
theorem idx4 : ∀ t : Fin cfg0.N, win0_4.index t 0 = t.val ∧ win0_4.index t 1 = 0 ∧ win0_4.index t 2 = 0 := by decide +kernel

/-- Window 5's block index at a point: the expert, row block 0, column block 1. -/
theorem idx5 : ∀ t : Fin cfg0.N, win0_5.index t 0 = t.val ∧ win0_5.index t 1 = 0 ∧ win0_5.index t 2 = 1 := by decide +kernel

/-- Window 6's block index at a point: the expert, row block 0, column block 1. -/
theorem idx6 : ∀ t : Fin cfg0.N, win0_6.index t 0 = t.val ∧ win0_6.index t 1 = 0 ∧ win0_6.index t 2 = 1 := by decide +kernel

/-- Window 7's block index at a point: the expert, row block 0, column block 0. -/
theorem idx7 : ∀ t : Fin cfg0.N, win0_7.index t 0 = t.val ∧ win0_7.index t 1 = 0 ∧ win0_7.index t 2 = 0 := by decide +kernel

/-- Window 8's block index at a point: the expert, row block 0, column block 0. -/
theorem idx8 : ∀ t : Fin cfg0.N, win0_8.index t 0 = t.val ∧ win0_8.index t 1 = 0 ∧ win0_8.index t 2 = 0 := by decide +kernel

/-- Window 0's block: the experts' ids of every token. -/
theorem blk0_eq (c : Dev nD) (t : Fin cfg0.N) :
    (iblk m c 0 t : Vec Ideal S64x2 .i32) = m ((c : Thread nD τ).loc main_arg5) := by
  obtain ⟨e0, e1⟩ := idx0 t
  funext y
  show V m c main_arg5 ((win0_0.rect t).emb y) = _
  rw [V_main_arg5]
  refine congrArg (m ((c : Thread nD τ).loc main_arg5)) ?_
  funext q
  apply Fin.ext
  refine (Pipeline.Window.rect_emb_val win0_0 t y q).trans ?_
  match q with
  | ⟨0, _⟩ => show win0_0.index t 0 * 64 + (y 0).val = (y 0).val; omega
  | ⟨1, _⟩ => show win0_0.index t 1 * 2 + (y 1).val = (y 1).val; omega

/-- Window 1's block: the probabilities of every token. -/
theorem blk1_eq (c : Dev nD) (t : Fin cfg0.N) :
    (iblk m c 1 t : Vec Ideal S64x2 .f32) = m ((c : Thread nD τ).loc main_arg6) := by
  obtain ⟨e0, e1⟩ := idx1 t
  funext y
  show V m c main_arg6 ((win0_1.rect t).emb y) = _
  rw [V_main_arg6]
  refine congrArg (m ((c : Thread nD τ).loc main_arg6)) ?_
  funext q
  apply Fin.ext
  refine (Pipeline.Window.rect_emb_val win0_1 t y q).trans ?_
  match q with
  | ⟨0, _⟩ => show win0_1.index t 0 * 64 + (y 0).val = (y 0).val; omega
  | ⟨1, _⟩ => show win0_1.index t 1 * 2 + (y 1).val = (y 1).val; omega

/-- The rows the region finds: `x` reshaped to groups of eight columns, those transposed, and reshaped back. -/
theorem V_x (c : Dev nD) : V m c main_v2 = shapeCast S64x2048 (transpose S64x8x256 [0, 2, 1]
    (shapeCast S64x256x8 (m ((c : Thread nD τ).loc main_arg0)) shapeCasts_S64x2048_S64x256x8)
    transposes_S64x256x8_S64x8x256_0_2_1) shapeCasts_S64x8x256_S64x2048 := rfl

/-- The rearranged rows at an index: column `256 j + r` is column `8 r + j` of `x`. -/
theorem rows_at (x : FVec Ideal S64x2048 .f32) (a : Fin 64) (j : Fin 8) (r : Fin 256) :
    shapeCast S64x2048 (transpose S64x8x256 [0, 2, 1] (shapeCast S64x256x8 x shapeCasts_S64x2048_S64x256x8)
      transposes_S64x256x8_S64x8x256_0_2_1) shapeCasts_S64x8x256_S64x2048 (ix2 a ⟨256 * j.val + r.val, by omega⟩)
      = x (ix2 a ⟨8 * r.val + j.val, by omega⟩) := by
  pointwise
  have he : r.val * 8 + j.val = 8 * r.val + j.val := by omega
  simp only [he]

/-- Window 2's block: the rearranged rows. -/
theorem blk2_at (c : Dev nD) (t : Fin cfg0.N) (a : Fin 64) (j : Fin 8) (r : Fin 256) :
    (iblk m c 2 t : Vec Ideal S64x2048 .f32) (ix2 a ⟨256 * j.val + r.val, by omega⟩)
      = m ((c : Thread nD τ).loc main_arg0) (ix2 a ⟨8 * r.val + j.val, by omega⟩) := by
  obtain ⟨e0, e1⟩ := idx2 t
  refine Eq.trans ?_ (rows_at (m ((c : Thread nD τ).loc main_arg0)) a j r)
  rw [← V_x]
  show V m c main_v2 ((win0_2.rect t).emb _) = _
  refine congrArg (V m c main_v2) ?_
  funext q
  apply Fin.ext
  refine (Pipeline.Window.rect_emb_val win0_2 t _ q).trans ?_
  match q with
  | ⟨0, _⟩ => show win0_2.index t 0 * 64 + a.val = a.val; omega
  | ⟨1, _⟩ => show win0_2.index t 1 * 2048 + (256 * j.val + r.val) = 256 * j.val + r.val; omega

/-- Window 3's block: the gate half of the expert's packed words. -/
theorem blk3_at (c : Dev nD) (t : Fin cfg0.N) (r : Fin 256) (i : Fin 1024) :
    (iblk m c 3 t : Vec Ideal S1x256x1024 .i32) (ix3 0 r i) = m ((c : Thread nD τ).loc main_arg1) (ix3 (ex t) r ⟨i.val, by omega⟩) := by
  obtain ⟨e0, e1, e2⟩ := idx3 t
  show V m c main_arg1 ((win0_3.rect t).emb _) = _
  rw [V_main_arg1]
  refine congrArg (m ((c : Thread nD τ).loc main_arg1)) ?_
  funext q
  apply Fin.ext
  refine (Pipeline.Window.rect_emb_val win0_3 t _ q).trans ?_
  match q with
  | ⟨0, _⟩ => show win0_3.index t 0 * 1 + 0 = t.val; omega
  | ⟨1, _⟩ => show win0_3.index t 1 * 256 + r.val = r.val; omega
  | ⟨2, _⟩ => show win0_3.index t 2 * 1024 + i.val = i.val; omega

/-- Window 4's block: the gate half of the expert's scales. -/
theorem blk4_at (c : Dev nD) (t : Fin cfg0.N) (r : Fin 64) (i : Fin 1024) :
    (iblk m c 4 t : Vec Ideal S1x64x1024 .f32) (ix3 0 r i) = m ((c : Thread nD τ).loc main_arg2) (ix3 (ex t) r ⟨i.val, by omega⟩) := by
  obtain ⟨e0, e1, e2⟩ := idx4 t
  show V m c main_arg2 ((win0_4.rect t).emb _) = _
  rw [V_main_arg2]
  refine congrArg (m ((c : Thread nD τ).loc main_arg2)) ?_
  funext q
  apply Fin.ext
  refine (Pipeline.Window.rect_emb_val win0_4 t _ q).trans ?_
  match q with
  | ⟨0, _⟩ => show win0_4.index t 0 * 1 + 0 = t.val; omega
  | ⟨1, _⟩ => show win0_4.index t 1 * 64 + r.val = r.val; omega
  | ⟨2, _⟩ => show win0_4.index t 2 * 1024 + i.val = i.val; omega

/-- Window 5's block: the up half of the expert's packed words. -/
theorem blk5_at (c : Dev nD) (t : Fin cfg0.N) (r : Fin 256) (i : Fin 1024) :
    (iblk m c 5 t : Vec Ideal S1x256x1024 .i32) (ix3 0 r i) = m ((c : Thread nD τ).loc main_arg1) (ix3 (ex t) r ⟨1024 + i.val, by omega⟩) := by
  obtain ⟨e0, e1, e2⟩ := idx5 t
  show V m c main_arg1 ((win0_5.rect t).emb _) = _
  rw [V_main_arg1]
  refine congrArg (m ((c : Thread nD τ).loc main_arg1)) ?_
  funext q
  apply Fin.ext
  refine (Pipeline.Window.rect_emb_val win0_5 t _ q).trans ?_
  match q with
  | ⟨0, _⟩ => show win0_5.index t 0 * 1 + 0 = t.val; omega
  | ⟨1, _⟩ => show win0_5.index t 1 * 256 + r.val = r.val; omega
  | ⟨2, _⟩ => show win0_5.index t 2 * 1024 + i.val = 1024 + i.val; omega

/-- Window 6's block: the up half of the expert's scales. -/
theorem blk6_at (c : Dev nD) (t : Fin cfg0.N) (r : Fin 64) (i : Fin 1024) :
    (iblk m c 6 t : Vec Ideal S1x64x1024 .f32) (ix3 0 r i) = m ((c : Thread nD τ).loc main_arg2) (ix3 (ex t) r ⟨1024 + i.val, by omega⟩) := by
  obtain ⟨e0, e1, e2⟩ := idx6 t
  show V m c main_arg2 ((win0_6.rect t).emb _) = _
  rw [V_main_arg2]
  refine congrArg (m ((c : Thread nD τ).loc main_arg2)) ?_
  funext q
  apply Fin.ext
  refine (Pipeline.Window.rect_emb_val win0_6 t _ q).trans ?_
  match q with
  | ⟨0, _⟩ => show win0_6.index t 0 * 1 + 0 = t.val; omega
  | ⟨1, _⟩ => show win0_6.index t 1 * 64 + r.val = r.val; omega
  | ⟨2, _⟩ => show win0_6.index t 2 * 1024 + i.val = 1024 + i.val; omega

/-- Window 7's block: the expert's packed words of the down projection. -/
theorem blk7_at (c : Dev nD) (t : Fin cfg0.N) (r : Fin 128) (i : Fin 2048) :
    (iblk m c 7 t : Vec Ideal S1x128x2048 .i32) (ix3 0 r i) = m ((c : Thread nD τ).loc main_arg3) (ix3 (ex t) r i) := by
  obtain ⟨e0, e1, e2⟩ := idx7 t
  show V m c main_arg3 ((win0_7.rect t).emb _) = _
  rw [V_main_arg3]
  refine congrArg (m ((c : Thread nD τ).loc main_arg3)) ?_
  funext q
  apply Fin.ext
  refine (Pipeline.Window.rect_emb_val win0_7 t _ q).trans ?_
  match q with
  | ⟨0, _⟩ => show win0_7.index t 0 * 1 + 0 = t.val; omega
  | ⟨1, _⟩ => show win0_7.index t 1 * 128 + r.val = r.val; omega
  | ⟨2, _⟩ => show win0_7.index t 2 * 2048 + i.val = i.val; omega

/-- Window 8's block: the expert's scales of the down projection. -/
theorem blk8_at (c : Dev nD) (t : Fin cfg0.N) (r : Fin 32) (i : Fin 2048) :
    (iblk m c 8 t : Vec Ideal S1x32x2048 .f32) (ix3 0 r i) = m ((c : Thread nD τ).loc main_arg4) (ix3 (ex t) r i) := by
  obtain ⟨e0, e1, e2⟩ := idx8 t
  show V m c main_arg4 ((win0_8.rect t).emb _) = _
  rw [V_main_arg4]
  refine congrArg (m ((c : Thread nD τ).loc main_arg4)) ?_
  funext q
  apply Fin.ext
  refine (Pipeline.Window.rect_emb_val win0_8 t _ q).trans ?_
  match q with
  | ⟨0, _⟩ => show win0_8.index t 0 * 1 + 0 = t.val; omega
  | ⟨1, _⟩ => show win0_8.index t 1 * 32 + r.val = r.val; omega
  | ⟨2, _⟩ => show win0_8.index t 2 * 2048 + i.val = i.val; omega

end Cert.KernelIdeal.Blocks
-- ==== Proof.Fold.lean ====
/- The kernel's output at an index: the sixteen grid points' additions unrolled are the layer's sum over the experts. -/
module

public import proofs.«01_k».proof.Proof.TileApply
public import proofs.«01_k».proof.Proof.Blocks

@[expose] public section

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ)

/-- Grid point `n`'s addend to the output: its expert's term (zero past the grid). -/
def addend (c : Dev nD) (n : ℕ) (y : S64x2048.Idx) : EReal :=
  if h : n < 16 then Moe.term (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (y 0) (y 1) ⟨n, h⟩ else 0

/-- The tile over point `n`'s blocks adds the point's addend. -/
theorem tile_blocks (c : Dev nD) (n : ℕ) (h : n < cfg0.N) (acc : Vec Ideal S64x2048 .f32) (y : S64x2048.Idx) :
    Tile.tile (BitVec.ofNat 32 ((grid0.coords ⟨n, h⟩) 0).val) (iblk m c 0 ⟨n, h⟩) (iblk m c 1 ⟨n, h⟩)
      (iblk m c 2 ⟨n, h⟩) (iblk m c 3 ⟨n, h⟩) (iblk m c 4 ⟨n, h⟩) (iblk m c 5 ⟨n, h⟩) (iblk m c 6 ⟨n, h⟩)
      (iblk m c 7 ⟨n, h⟩) (iblk m c 8 ⟨n, h⟩) acc y = acc y + addend m c n y := by
  have hn : n < 16 := h
  have hy : y = ix2 (y 0) (y 1) := by
    funext q
    match q with
    | ⟨0, _⟩ => rfl
    | ⟨1, _⟩ => rfl
  unfold addend
  rw [dif_pos hn, Blocks.coord_eq ⟨n, h⟩]
  conv_lhs => rw [hy]
  conv_rhs => arg 1; rw [hy]
  exact Tile.tile_at _ _ _ _ _ _ _ _ _ _ _ _ _ _ _ _ ⟨n, hn⟩ (Blocks.blk0_eq m c ⟨n, h⟩) (Blocks.blk1_eq m c ⟨n, h⟩)
    (Blocks.blk2_at m c ⟨n, h⟩) (Blocks.blk3_at m c ⟨n, h⟩) (Blocks.blk4_at m c ⟨n, h⟩) (Blocks.blk5_at m c ⟨n, h⟩)
    (Blocks.blk6_at m c ⟨n, h⟩) (Blocks.blk7_at m c ⟨n, h⟩) (Blocks.blk8_at m c ⟨n, h⟩) acc (y 0) (y 1)

/-- The block the reset starts from holds zeros. -/
theorem zeros_at (y : S64x2048.Idx) : (k0_pay2 (F := Ideal)) y = 0 := by
  unfold_payloads
  pointwise

/-- The kernel's output at an index is the layer there. -/
theorem G9_at (c : Dev nD) (t : Fin 64) (n : Fin 2048) : Value.G9 m c (ix2 t n) =
    Moe.out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) t n := by
  have hr : Value.run9Of (ix2 t n) = 0 := by
    show 1 * (t.val / 64 - 0) + 1 * (n.val / 2048 - 0) = 0
    omega
  have hl : Value.loc9Of (ix2 t n) = ix2 t n := by
    funext q
    apply Fin.ext
    match q with
    | ⟨0, _⟩ => show t.val % 64 = t.val; omega
    | ⟨1, _⟩ => show n.val % 2048 = n.val; omega
  unfold Value.G9
  rw [dif_pos (by rw [hr]; decide), hl]
  refine (Pipeline.accAt_add_apply (Value.reset9 m c) (Value.step9 m c) (fun _ => 0) (addend m c) _ 15 ?_ ?_ 15 le_rfl _ _).trans ?_
  · intro h y
    rw [Tile.reset_eq, tile_blocks, zeros_at]
  · intro k h acc y _ _
    rw [Tile.step_eq, tile_blocks]
  · rw [hr, zero_add]
    unfold Moe.out
    rw [Finset.sum_range]
    refine Finset.sum_congr rfl fun e _ => ?_
    unfold addend
    rw [dif_pos (by omega)]
    simp only [Nat.mul_zero, Nat.zero_add]
    rfl

end Cert.KernelIdeal.Fold
-- ==== Proof.Ref.lean ====
/- The reference's result as one term over its arguments, its repeated pieces named. -/
module

public import proofs.«01_k».proof.Proof.Gen.ReferenceIdeal.Run

@[expose] public section

noncomputable section

namespace Cert.ReferenceIdeal.Term

open Idealize.ShloMosaic Idealize.ShloMosaic.TcCoe Idealize.SL.Sem
open Cert.ReferenceIdeal Cert.ReferenceIdeal.Gen

variable {F : FTy → Type} [FloatOps F]

/-- The gate and up projections' four-bit codes, one per weight. -/
def codeG (p : IVec S16x256x2048 32) : IVec S16x2048x2048 32 :=
  shapeCast _ (andi (Host.shrui (broadcastInDim S16x256x8x2048 ![0, 1, 2, 3] bcast_S16x256x1x2048_S16x256x8x2048_0_1_2_3 (broadcastInDim S16x256x1x2048 ![0, 1, 3] bcast_S16x256x2048_S16x256x1x2048_0_1_3 p))
    (broadcastInDim S16x256x8x2048 ![0, 1, 2, 3] bcast_S1x1x8x1_S16x256x8x2048_0_1_2_3 (broadcastInDim S1x1x8x1 ![1, 2, 3] bcast_S1x8x1_S1x1x8x1_1_2_3 (broadcastInDim S1x8x1 ![1] bcast_S8_S1x8x1_1 (muli (iotaInDim S8 32 0) (broadcastInDim S8 ![] bcast_S_S8 (constantI S_ 32 4#32)))))))
    (broadcastInDim S16x256x8x2048 ![] bcast_S_S16x256x8x2048 (constantI S_ 32 15#32))) shapeCasts_S16x256x8x2048_S16x2048x2048

/-- The down projection's four-bit codes, one per weight. -/
def codeD (p : IVec S16x128x2048 32) : IVec S16x1024x2048 32 :=
  shapeCast _ (andi (Host.shrui (broadcastInDim S16x128x8x2048 ![0, 1, 2, 3] bcast_S16x128x1x2048_S16x128x8x2048_0_1_2_3 (broadcastInDim S16x128x1x2048 ![0, 1, 3] bcast_S16x128x2048_S16x128x1x2048_0_1_3 p))
    (broadcastInDim S16x128x8x2048 ![0, 1, 2, 3] bcast_S1x1x8x1_S16x128x8x2048_0_1_2_3 (broadcastInDim S1x1x8x1 ![1, 2, 3] bcast_S1x8x1_S1x1x8x1_1_2_3 (broadcastInDim S1x8x1 ![1] bcast_S8_S1x8x1_1 (muli (iotaInDim S8 32 0) (broadcastInDim S8 ![] bcast_S_S8 (constantI S_ 32 4#32)))))))
    (broadcastInDim S16x128x8x2048 ![] bcast_S_S16x128x8x2048 (constantI S_ 32 15#32))) shapeCasts_S16x128x8x2048_S16x1024x2048

/-- The gate and up projections' weights: the table read at the codes, times the scales. -/
def weightG (p : IVec S16x256x2048 32) (s : FVec F S16x64x2048 .f32) : FVec F S16x2048x2048 .f32 :=
  mulf (Host.gather gather_S16_S16x2048x2048x1_S16x2048x2048_n_0_n_n_0_3_1 (fun i => FloatOps.ofBits .f32 (lit0 (S16.rowMajor i)))
      (broadcastInDim S16x2048x2048x1 ![0, 1, 2] bcast_S16x2048x2048_S16x2048x2048x1_0_1_2
        (select (cmpi .slt (codeG p) (broadcastInDim S16x2048x2048 ![] bcast_S_S16x2048x2048 (constantI S_ 32 0#32)))
          (addi (codeG p) (broadcastInDim S16x2048x2048 ![] bcast_S_S16x2048x2048 (constantI S_ 32 16#32))) (codeG p))))
    (shapeCast _ (broadcastInDim S16x64x32x2048 ![0, 1, 3] bcast_S16x64x2048_S16x64x32x2048_0_1_3 s) shapeCasts_S16x64x32x2048_S16x2048x2048)

/-- The down projection's weights: the table read at the codes, times the scales. -/
def weightD (p : IVec S16x128x2048 32) (s : FVec F S16x32x2048 .f32) : FVec F S16x1024x2048 .f32 :=
  mulf (Host.gather gather_S16_S16x1024x2048x1_S16x1024x2048_n_0_n_n_0_3_1 (fun i => FloatOps.ofBits .f32 (lit1 (S16.rowMajor i)))
      (broadcastInDim S16x1024x2048x1 ![0, 1, 2] bcast_S16x1024x2048_S16x1024x2048x1_0_1_2
        (select (cmpi .slt (codeD p) (broadcastInDim S16x1024x2048 ![] bcast_S_S16x1024x2048 (constantI S_ 32 0#32)))
          (addi (codeD p) (broadcastInDim S16x1024x2048 ![] bcast_S_S16x1024x2048 (constantI S_ 32 16#32))) (codeD p))))
    (shapeCast _ (broadcastInDim S16x32x32x2048 ![0, 1, 3] bcast_S16x32x2048_S16x32x32x2048_0_1_3 s) shapeCasts_S16x32x32x2048_S16x1024x2048)

/-- The gated activation of the two halves of the hidden product. -/
def gated (h : FVec F S64x16x2048 .f32) : FVec F S64x16x1024 .f32 :=
  mulf (mulf (extractStridedSlice S64x16x1024 ![0, 0, 0] h slices_S64x16x2048_S64x16x1024_0_0_0)
      (Host.divf (broadcastInDim S64x16x1024 ![] bcast_S_S64x16x1024 (constant S_ .f32 0x3F800000#32))
        (addf (broadcastInDim S64x16x1024 ![] bcast_S_S64x16x1024 (constant S_ .f32 0x3F800000#32))
          (Host.exp (Host.negf (extractStridedSlice S64x16x1024 ![0, 0, 0] h slices_S64x16x2048_S64x16x1024_0_0_0))))))
    (extractStridedSlice S64x16x1024 ![0, 0, 1024] h slices_S64x16x2048_S64x16x1024_0_0_1024)

/-- The weight each expert has in each token: the sum of the token's probabilities at the expert's id. -/
def share (ids : IVec S64x2 32) (pr : FVec F S64x2 .f32) : FVec F S16x64 .f32 :=
  Host.reduceAdd (select (cmpi .eq (broadcastInDim S16x64x2 ![0, 1, 2] bcast_S1x64x2_S16x64x2_0_1_2 (broadcastInDim S1x64x2 ![1, 2] bcast_S64x2_S1x64x2_1_2 ids))
      (broadcastInDim S16x64x2 ![0, 1, 2] bcast_S16x1x1_S16x64x2_0_1_2 (broadcastInDim S16x1x1 ![0] bcast_S16_S16x1x1_0 (iotaInDim S16 32 0))))
    (broadcastInDim S16x64x2 ![1, 2] bcast_S64x2_S16x64x2_1_2 pr)
    (broadcastInDim S16x64x2 ![1, 2] bcast_S64x2_S16x64x2_1_2 (broadcastInDim S64x2 ![] bcast_S_S64x2 (constant S_ .f32 0x00000000#32))))
    (constant S_ .f32 0x00000000#32) reducesTo_S16x64x2_S16x64_d2 h_S_

/-- The reference's result over its arguments. -/
def out (x : FVec F S64x2048 .f32) (pg : IVec S16x256x2048 32) (sg : FVec F S16x64x2048 .f32) (pd : IVec S16x128x2048 32)
    (sd : FVec F S16x32x2048 .f32) (ids : IVec S64x2 32) (pr : FVec F S64x2 .f32) : FVec F S64x2048 .f32 :=
  Host.reduceAdd (mulf (Host.dotGeneral dot_S64x16x1024_S16x1024x2048_S16x64x2048_2_1_0_2_1_0 none
      (gated (Host.dotGeneral dot_S64x2048_S16x2048x2048_S64x16x2048_1_1_0_02_n_n none x (weightG pg sg))) (weightD pd sd))
      (broadcastInDim S16x64x2048 ![0, 1, 2] bcast_S16x64x1_S16x64x2048_0_1_2 (broadcastInDim S16x64x1 ![0, 1] bcast_S16x64_S16x64x1_0_1 (share ids pr))))
    (constant S_ .f32 0x00000000#32) reducesTo_S16x64x2048_S64x2048_d0 h_S_

variable (m : (ℓ : Loc nD τ sig) → Buf (Elt F) ℓ)

/-- The run's result is that term of the arguments' contents. -/
theorem res_eq (c : Dev nD) : Value.res_out0 m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

end Cert.ReferenceIdeal.Term
-- ==== Proof.RefApply.lean ====
/- The reference's term read at an index: it is the layer's mathematics at that index. -/
module

public import proofs.«01_k».proof.Proof.Ref
public import proofs.«01_k».proof.Proof.Spec

@[expose] public section

noncomputable section

namespace Cert.ReferenceIdeal.Term

open Idealize.ShloMosaic Idealize.SL.Sem
open Cert.ReferenceIdeal Cert.ReferenceIdeal.Gen

/-- The first table holds the pattern of each code. -/
theorem lit0_eq : ∀ k : Fin 16, lit0 k = Moe.pat (BitVec.ofNat 32 k.val) := by decide

/-- The second table holds the pattern of each code. -/
theorem lit1_eq : ∀ k : Fin 16, lit1 k = Moe.pat (BitVec.ofNat 32 k.val) := by decide

/-- Reading a table of sixteen at a batch of positions of rank three: the entry at the position, clamped to the table. -/
theorem gather_at {R C D : ℕ} {α : Type} (d : GatherDims S16 (⟨4, ![R, C, D, 1]⟩ : Shape) (⟨3, ![R, C, D]⟩ : Shape))
    (h1 : d.offsetDims = []) (h2 : d.collapsedSliceDims = [0]) (h3 : d.operandBatchingDims = [])
    (h4 : d.startIndicesBatchingDims = []) (h5 : d.startIndexMap = [0]) (h6 : d.indexVectorDim = 3) (h7 : d.sliceSizes = ![1])
    (x : S16.Idx → α) (idx : IVec (⟨4, ![R, C, D, 1]⟩ : Shape) 32) (a : Fin R) (b : Fin C) (c : Fin D) :
    Host.gather d x idx (ix3 a b c) = x (ix1 ⟨min (idx (ix4 a b c 0)).toInt.toNat 15, by omega⟩) := by
  obtain ⟨od, cd, ob, sb, sm, iv, sl, wf⟩ := d
  dsimp only at h1 h2 h3 h4 h5 h6 h7
  subst h1 h2 h3 h4 h5 h6 h7
  generalize hd : (⟨[], [0], [], [], [0], 3, ![1], wf⟩ :
    GatherDims S16 (⟨4, ![R, C, D, 1]⟩ : Shape) (⟨3, ![R, C, D]⟩ : Shape)) = d
  show x (d.operandIdx (ix3 a b c) idx) = _
  refine congrArg x ?_
  funext i
  obtain rfl : i = 0 := Subsingleton.elim _ _
  apply Fin.ext
  show d.start (ix3 a b c) idx 0 + d.batchCoord (ix3 a b c) 0 + d.offCoord (ix3 a b c) 0 = _
  have hb : d.batchCoord (ix3 a b c) 0 = 0 := d.batchCoord_eq_zero _ _ (by subst hd; exact List.not_mem_nil)
  have ho : d.offCoord (ix3 a b c) 0 = 0 :=
    d.offCoord_eq_zero _ _ fun h => ((d.mem_sKept _).mp h).1 (by subst hd; exact List.mem_singleton.mpr rfl)
  have hm : (0 : Fin S16.rank) ∈ d.startIndexMap := by subst hd; exact List.mem_singleton.mpr rfl
  have hs : d.start (ix3 a b c) idx 0 = min (idx (ix4 a b c 0)).toInt.toNat 15 := by
    unfold GatherDims.start
    rw [dif_pos hm]
    subst hd
    refine congrArg (fun v : BitVec 32 => min v.toInt.toNat 15) (congrArg idx ?_)
    funext q
    apply Fin.ext
    match q with
    | ⟨0, _⟩ => rfl
    | ⟨1, _⟩ => rfl
    | ⟨2, _⟩ => rfl
    | ⟨3, _⟩ => rfl
  rw [hb, ho, hs]
  rfl

/-- The row-major position of a table's index is the index. -/
theorem row_at (k : Fin 16) : (S16.rowMajor (ix1 k)).val = k.val := by
  revert k
  decide

/-- A code of the gate and up projections, up to its upper bits. -/
theorem codeG_at (p : IVec S16x256x2048 32) (e : Fin 16) (k n : Fin 2048) :
    codeG p (ix3 e k n) = IntOp.andi (Moe.code (p (ix3 e ⟨k.val / 8, by omega⟩ n)) (k.val % 8)) 15#32 := by
  pointwise [codeG]
  rfl

/-- A code of the down projection, up to its upper bits. -/
theorem codeD_at (p : IVec S16x128x2048 32) (e : Fin 16) (k : Fin 1024) (n : Fin 2048) :
    codeD p (ix3 e k n) = IntOp.andi (Moe.code (p (ix3 e ⟨k.val / 8, by omega⟩ n)) (k.val % 8)) 15#32 := by
  pointwise [codeD]
  rfl

/-- A weight of the gate and up projections. -/
theorem weightG_at (p : IVec S16x256x2048 32) (s : FVec Ideal S16x64x2048 .f32) (e : Fin 16) (k n : Fin 2048) :
    weightG p s (ix3 e k n) = Moe.wg p s e k n := by
  unfold weightG Moe.wg Moe.dec
  rw [mulf_apply]
  refine congrArg₂ (· * ·) ?_ (by pointwise)
  refine (gather_at _ rfl rfl rfl rfl rfl rfl rfl _ _ e k n).trans ?_
  refine congrArg (Ideal.ofBits .f32) (Moe.table_at lit0 lit0_eq _ _ ?_)
  rw [← codeG_at, row_at]
  refine congrArg (fun v : BitVec 32 => min v.toInt.toNat 15) ?_
  pointwise

/-- A weight of the down projection. -/
theorem weightD_at (p : IVec S16x128x2048 32) (s : FVec Ideal S16x32x2048 .f32) (e : Fin 16) (k : Fin 1024) (n : Fin 2048) :
    weightD p s (ix3 e k n) = Moe.wd p s e k n := by
  unfold weightD Moe.wd Moe.dec
  rw [mulf_apply]
  refine congrArg₂ (· * ·) ?_ (by pointwise)
  refine (gather_at _ rfl rfl rfl rfl rfl rfl rfl _ _ e k n).trans ?_
  refine congrArg (Ideal.ofBits .f32) (Moe.table_at lit1 lit1_eq _ _ ?_)
  rw [← codeD_at, row_at]
  refine congrArg (fun v : BitVec 32 => min v.toInt.toNat 15) ?_
  pointwise

/-- The activation at an index, from the hidden projection there. -/
theorem gated_at (h : FVec Ideal S64x16x2048 .f32) (t : Fin 64) (e : Fin 16) (i : Fin 1024) :
    gated h (ix3 t e i) = h (ix3 t e ⟨i.val, by omega⟩) * Ideal.logistic (h (ix3 t e ⟨i.val, by omega⟩))
      * h (ix3 t e ⟨1024 + i.val, by omega⟩) := by
  pointwise [gated]
  rfl

/-- The hidden projection at an index. -/
theorem hid_at (x : FVec Ideal S64x2048 .f32) (p : IVec S16x256x2048 32) (s : FVec Ideal S16x64x2048 .f32) (t : Fin 64)
    (e : Fin 16) (n : Fin 2048) :
    (Host.dotGeneral dot_S64x2048_S16x2048x2048_S64x16x2048_1_1_0_02_n_n none x (weightG p s) : FVec Ideal S64x16x2048 .f32)
      (ix3 t e n) = Moe.hid x p s e t n := by
  unfold Moe.hid
  simp only [← weightG_at]
  generalize weightG p s = w
  pointwise

/-- The weight of an expert in a token. -/
theorem share_at (ids : IVec S64x2 32) (pr : FVec Ideal S64x2 .f32) (e : Fin 16) (t : Fin 64) :
    share ids pr (ix2 e t) = Moe.share ids pr e t := by
  unfold Moe.share
  pointwise [share]

/-- The reference's term at an index is the layer there. -/
theorem out_at (x : FVec Ideal S64x2048 .f32) (pg : IVec S16x256x2048 32) (sg : FVec Ideal S16x64x2048 .f32)
    (pd : IVec S16x128x2048 32) (sd : FVec Ideal S16x32x2048 .f32) (ids : IVec S64x2 32) (pr : FVec Ideal S64x2 .f32)
    (t : Fin 64) (n : Fin 2048) : out x pg sg pd sd ids pr (ix2 t n) = Moe.out x pg sg pd sd ids pr t n := by
  unfold Moe.out Moe.term Moe.gate
  simp only [← weightD_at, ← hid_at, ← share_at, ← gated_at]
  unfold out
  generalize (Host.dotGeneral dot_S64x2048_S16x2048x2048_S64x16x2048_1_1_0_02_n_n none x (weightG pg sg) :
    FVec Ideal S64x16x2048 .f32) = h
  generalize gated h = g
  generalize weightD pd sd = w
  generalize share ids pr = r
  pointwise

end Cert.ReferenceIdeal.Term
-- ==== Proof.lean ====
/- The proof of the five claims. The frames are the generated runs' (the reference declares no semaphore, so its counters
   are zero at the end); the value claim reads the kernel's output and the reference's result at an index, where both are
   the layer of Proof/Spec.lean over the same arguments. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Fold
public import proofs.«01_k».proof.Proof.RefApply
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end from every start, with every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the idealized kernel's result is the idealized reference's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨a0, a1, a2, a3, a4, a5, a6⟩ := hagree c
  refine (Cert.ReferenceIdeal.Term.res_eq m' c).trans ?_
  rw [a0, a1, a2, a3, a4, a5, a6]
  refine funext fun y => ?_
  obtain ⟨t, n, rfl⟩ : ∃ (t : Fin 64) (n : Fin 2048), y = ix2 t n := ⟨y 0, y 1, by
    funext q
    match q with
    | ⟨0, _⟩ => rfl
    | ⟨1, _⟩ => rfl⟩
  exact (Cert.ReferenceIdeal.Term.out_at _ _ _ _ _ _ _ t n).trans (Cert.KernelIdeal.Fold.G9_at m c t n).symm

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
